-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_ua_sq" .f32 0x38AD517F#32 ((1 / 12100 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x100000 : Shape := ⟨2, ![1024, 100000]⟩
abbrev S1024x512 : Shape := ⟨2, ![1024, 512]⟩
abbrev S1024 : Shape := ⟨1, ![1024]⟩
abbrev S256x12800 : Shape := ⟨2, ![256, 12800]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S1024x100000, .f32⟩
  | .hbm, ⟨1, _⟩ => ⟨S1024x512, .f32⟩
  | .hbm, ⟨2, _⟩ => ⟨S1024, .i32⟩
  | .hbm, ⟨3, _⟩ => ⟨S1024x100000, .f32⟩
  | .hbm, ⟨4, _⟩ => ⟨S1024x1, .f32⟩
  | .local _ .vmem, ⟨0, _⟩ => ⟨S256x12800, .f32⟩
  | .local _ .vmem, ⟨1, _⟩ => ⟨S256x12800, .f32⟩
  | .local _ .vmem, ⟨2, _⟩ => ⟨S256x12800, .f32⟩
  | .local _ .vmem, ⟨3, _⟩ => ⟨S256x12800, .f32⟩
  | .local _ .vmem, ⟨4, _⟩ => ⟨S1024x512, .f32⟩
  | .local _ .vmem, ⟨5, _⟩ => ⟨S1024x1, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := .none

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "inv_ua_sq" => some ((1 / 12100 : ℝ) : EReal)
  | _ => none
-- ==== ReferenceIdeal.lean ====
abbrev S1024x100000 : Shape := ⟨2, ![1024, 100000]⟩
abbrev S1024x512 : Shape := ⟨2, ![1024, 512]⟩
abbrev S1024 : Shape := ⟨1, ![1024]⟩
abbrev S_ : Shape := ⟨0, ![]⟩
abbrev S1024x1 : Shape := ⟨2, ![1024, 1]⟩

abbrev nBuf : Space → Nat
  | .hbm => 70
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x512, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1024x1, .f32⟩
  | .hbm, ⟨31, _⟩ => ⟨S1024x1, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S1024x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024x100000, .f32⟩
  | .hbm, ⟨40, _⟩ => ⟨S1024x100000, .f32⟩
  | .hbm, ⟨41, _⟩ => ⟨S_, .f32⟩
  | .hbm, ⟨42, _⟩ => ⟨S1024x100000, .f32⟩
  | .hbm, ⟨43, _⟩ => ⟨S1024x100000, .f32⟩
  | .hbm, ⟨44, _⟩ => ⟨S1024x100000, .f32⟩
  | .hbm, ⟨45, _⟩ => ⟨S_, .f32⟩
  | .hbm, ⟨46, _⟩ => ⟨S1024x100000, .f32⟩
  | .hbm, ⟨47, _⟩ => ⟨S1024x100000, .f32⟩
  | .hbm, ⟨48, _⟩ => ⟨S1024x100000, .f32⟩
  | .hbm, ⟨49, _⟩ => ⟨S1024x100000, .f32⟩
  | .hbm, ⟨50, _⟩ => ⟨S1024x100000, .f32⟩
  | .hbm, ⟨51, _⟩ => ⟨S1024x100000, .f32⟩
  | .hbm, ⟨52, _⟩ => ⟨S1024x100000, .f32⟩
  | .hbm, ⟨53, _⟩ => ⟨S1024x100000, .f32⟩
  | .hbm, ⟨54, _⟩ => ⟨S_, .f32⟩
  | .hbm, ⟨55, _⟩ => ⟨S1024x1, .f32⟩
  | .hbm, ⟨56, _⟩ => ⟨S1024x1, .f32⟩
  | .hbm, ⟨57, _⟩ => ⟨S1024x1, .f32⟩
  | .hbm, ⟨58, _⟩ => ⟨S1024x100000, .f32⟩
  | .hbm, ⟨59, _⟩ => ⟨S1024x100000, .i1⟩
  | .hbm, ⟨60, _⟩ => ⟨S_, .f32⟩
  | .hbm, ⟨61, _⟩ => ⟨S1024x100000, .f32⟩
  | .hbm, ⟨62, _⟩ => ⟨S1024x100000, .f32⟩
  | .hbm, ⟨63, _⟩ => ⟨S1024x100000, .f32⟩
  | .hbm, ⟨64, _⟩ => ⟨S_, .f32⟩
  | .hbm, ⟨65, _⟩ => ⟨S1024x100000, .f32⟩
  | .hbm, ⟨66, _⟩ => ⟨S1024x100000, .f32⟩
  | .hbm, ⟨67, _⟩ => ⟨S_, .f32⟩
  | .hbm, ⟨68, _⟩ => ⟨S1024x1, .f32⟩
  | .hbm, ⟨69, _⟩ => ⟨S1024x1, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_v3 : Ref sig .tc := ⟨.hbm, 18, rfl⟩
abbrev main_cst_2 : Ref sig .tc := ⟨.hbm, 19, rfl⟩
abbrev main_v4 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_cst_5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_6 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_7 : Ref sig .tc := ⟨.hbm, 36, rfl⟩
abbrev main_cst_8 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v16 : Ref sig .tc := ⟨.hbm, 43, rfl⟩
abbrev main_v17 : Ref sig .tc := ⟨.hbm, 44, rfl⟩
abbrev main_cst_9 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_10 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_11 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_12 : Ref sig .tc := ⟨.hbm, 64, rfl⟩
abbrev main_v34 : Ref sig .tc := ⟨.hbm, 65, rfl⟩
abbrev main_v35 : Ref sig .tc := ⟨.hbm, 66, rfl⟩
abbrev main_cst_13 : Ref sig .tc := ⟨.hbm, 67, rfl⟩
abbrev main_v36 : Ref sig .tc := ⟨.hbm, 68, rfl⟩
abbrev main_v37 : Ref sig .tc := ⟨.hbm, 69, rfl⟩

abbrev nD : Nat := 1
abbrev τ : Topo := Topo.v7x

variable {F : FTy → Type} [FloatOps F]
-- ==== Proof.ScaleRegion.lean ====
/- The first launch, `_scale_kernel`: `clip(x, -1, 1) * 32` over the f32[1024,100000] logits, in blocks of 256 rows by
   12800 columns on a 4 by 8 grid. Seven column blocks are whole; the eighth overhangs the array by 2400 columns, so its
   transfers are cut at the array's edge and the buffer's other columns hold words nothing is known of.

   What is shown, for any values of the entry buffers: the body leaves in the output's buffer the scaled word of every
   word of the input's (`body_run`), which on the columns inside the array is the scaled block whatever lies past the edge
   (`obligation`); and the 32 cut blocks together cover the output, which ends holding the scaled input (`out_final`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.ValueKit
public import Idealize.ShloMosaic.Lib.Tactic

@[expose] public section

set_option maxRecDepth 16384

noncomputable section

namespace Cert.Scale

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

/-! ## What one block computes -/

/-- One word of the kernel's arithmetic: clipped to [-1, 1], times 32. -/
def word (x : F .f32) : F .f32 :=
  FloatOps.mulf (FloatOps.minimumf (Scalar.ofBits .f32 0x3F800000#32) (FloatOps.maximumf (Scalar.ofBits .f32 0xBF800000#32) x))
    (Scalar.ofBits .f32 0x42000000#32)

/-- The stored value is `word` of the loaded value, position by position. -/
theorem pay_eq (v : Vec F S256x12800 .f32) : k0_pay1 v = fun j => word (v j) := rfl

/-- The whole buffer as the rectangle the body loads and stores. -/
abbrev all : Rect S256x12800 := Rect.unit (s := S256x12800) ![0, 0] S256x12800.size inb_S256x12800_S256x12800_0_0

/-- The one store fills its buffer. -/
theorem all_cover (p : Vec F S256x12800 .f32) (y : S256x12800.Idx) :
    ∃ pc ∈ ([⟨all, p⟩] : List (View.Piece (Elt F) S256x12800 .f32)), y ∈ pc.1.set :=
  View.cover_of_tiled [⟨all, p⟩] S256x12800.size (by rfl) y

/-- Storing over the whole buffer what was computed of a load of the whole buffer leaves `word` everywhere. -/
theorem stored_eq (x : Vec F S256x12800 .f32) :
    (View.canon [⟨all, k0_pay1 (View.ld x all)⟩] : Vec F S256x12800 .f32) = fun j => word (x j) := by
  have hz : (![0, 0] : Fin 2 → Nat) = fun _ => 0 := funext fun a => by fin_cases a <;> rfl
  rw [← pay_eq]
  frame_out

/-- The body on whole buffers, the input's holding `x` and the output's anything: the output's ends holding `word` of
    `x`, the input's as it was. -/
theorem body_run (c : Dev nD) (E : Set ℕ) (i : grid0.Coords)
    (src : Memref sig .tc .vmem S256x12800 .f32) (hsrc : src.IsWhole)
    (dst : Memref sig .tc .vmem S256x12800 .f32) (hdst : dst.IsWhole)
    (x : Vec F S256x12800 .f32) (K : PUnit → sProp 𝕄) :
    iprop(owns (c : Thread nD τ) src fullShare x ∗ (∃ d, owns (c : Thread nD τ) dst fullShare d)
        ∗ (iprop(owns (c : Thread nD τ) src fullShare x ∗ owns (c : Thread nD τ) dst fullShare (fun j => word (x j))) -∗ K ⟨⟩))
      ⊢ wp frame (wpE (defs₀ (F := F)) Variants.none c none) E (cc0__scale_kernel i src hsrc dst hdst) K := by
  simp only [cc0__scale_kernel_eq_skeleton]; unfold cc0__scale_kernel_skel
  rw [← stored_eq x]
  unfold owns
  iintro ⟨⟨%f, %hf, Hs⟩, ⟨%d, %g, -, Hd⟩, Hk⟩
  subst hf
  sl_exec
  sl_step
  iapply Hk
  isplitl [Hs]
  · iexists f; isplitr; · ipureintro; rfl
    iexact Hs
  iexists _; isplitr
  swap; · iexact Hd
  ipureintro
  exact View.read_writes_eq_canon _ _ _ (all_cover _)

/-! ## The pipeline's proof data -/

section Region
variable (V : Dev nD → Valuation τ sig (Elt F))

/-- The input's block at point `t`, as much of it as lies inside the array. -/
def xblk (c : Dev nD) (t : Fin cfg0.N) : (win0_0.xblock (grid0.coords t)).Idx → Elt F .f32 :=
  (win0_0.blk t).view.read (Elt F) (V c (Proc.devRef .tc main_arg0))

/-- The input's buffer after the body: its block, the zero word past the array's edge (where nothing is claimed). -/
def inBuf (c : Dev nD) (t : Fin cfg0.N) : S256x12800.Idx → Elt F .f32 :=
  win0_0.fill (grid0.coords t) (fun _ => Scalar.ofBits .f32 0#32) (xblk V c t)

/-- The output's buffer after the body: the scaled block, the zero word past the array's edge (where nothing is claimed). -/
def outBuf (c : Dev nD) (t : Fin cfg0.N) : S256x12800.Idx → Elt F .f32 :=
  win0_0.fill (grid0.coords t) (fun _ => Scalar.ofBits .f32 0#32) (fun j => word (xblk V c t j))

/-- The proof data on core `c`: the arrays as the launch finds them, the buffers after the body as above, the rest of
    the scoped memory and the generator register untouched, nothing owed. -/
def dat (c : Dev nD) : Dat τ (Elt F) Unit ℕ (UR sig nD τ) ℕ cfg0 c where
  A w := V c (Proc.devRef .tc (Pipeline.arrRef spec0 w))
  after w t := match w with
    | ⟨0, _⟩ => inBuf V c t
    | ⟨1, _⟩ => outBuf V c t
  Φ _ := Pipeline.ΦA spec0 c
  q _ := fullShare
  owed _ := 0

/-- The input's buffer when the body starts: the block, and past the array's edge whatever `d` the buffer held. -/
theorem before_in (c : Dev nD) (t : Fin cfg0.N) (d) :
    (dat V c).before (0 : Fin 2) t d = win0_0.fill (grid0.coords t) d (xblk V c t) := by
  unfold Dat.before; rw [if_pos (fetch0_0 t)]; rfl

/-- The output's buffer after the body, read off the proof data. -/
theorem after_out (c : Dev nD) (t : Fin cfg0.N) : (dat V c).after (1 : Fin 2) t = outBuf V c t := by dsimp only [dat]

/-- Scaling a block filled out with `d` is filling out the scaled block with the scaled `d`. -/
theorem word_fill (i : grid0.Coords) (d : S256x12800.Idx → Elt F .f32) (x : (win0_0.xblock i).Idx → Elt F .f32) :
    (fun j => word (win0_0.fill i d x j)) = win0_0.fill i (fun j => word (d j)) (fun j => word (x j)) := by
  funext j; unfold Window.fill; split <;> rfl

/-- The body at every point: on the columns inside the array the input's buffer keeps its block and the output's ends at
    the scaled block. -/
theorem obligation (c : Dev nD) : BodyObligationLoose (dat V c) (defs₀ (F := F)) Variants.none () Set.univ := fun t => by
  rw [bigSep_W0, bigSep_W0]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩⟩
  rw [before_in V c t d0]
  iapply (body_run (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_0.fill (grid0.coords t) d0 (xblk V c t)) _)
  isplitl [H0]; · iexact H0
  isplitl [H1]; · iexists _; iexact H1
  iintro ⟨H0, H1⟩
  isplitl [HΦ]; · iexact HΦ
  isplitl [Ho]; · iexact Ho
  have hin : win0_0.cut (grid0.coords t) (inBuf V c t) = xblk V c t := win0_0.cut_fill _ _ _
  have hout : win0_0.cut (grid0.coords t) (outBuf V c t) = fun j => word (xblk V c t j) := win0_0.cut_fill _ _ _
  isplitl [H0]
  · iexists d0
    change _ ⊢ owns (c : Thread nD τ) (st0_0 t) fullShare (win0_0.fill (grid0.coords t) d0 (win0_0.cut (grid0.coords t) (inBuf V c t)))
    rw [hin]; try iexact H0
  · iexists (fun j => word (d0 j))
    change _ ⊢ owns (c : Thread nD τ) (st0_1 t) fullShare (win0_0.fill (grid0.coords t) (fun j => word (d0 j)) (win0_0.cut (grid0.coords t) (outBuf V c t)))
    rw [hout, ← word_fill]; exact .rfl

/-! ## What the output array ends holding -/

/-- Inside the array the output's buffer is the scaled block. -/
theorem outBuf_inside (c : Dev nD) (t : Fin cfg0.N) (y : (win0_0.xblock (grid0.coords t)).Idx) :
    outBuf V c t (win0_0.xinj (grid0.coords t) y) = word (xblk V c t y) := by
  unfold outBuf; rw [win0_0.fill_xinj]

/-- The output ends holding `word` of the input, all 1024 rows by 100000 columns. -/
theorem out_final (c : Dev nD) :
    (dat V c).arrAt (1 : Fin 2) cfg0.N = fun i : S1024x100000.Idx => word (V c (Proc.devRef .tc main_arg0) i) := by
  refine Dat.arrAt_eq_of_covers (dat V c) 1 _ (by decide +kernel) fun t _ y => ?_
  rw [after_out]
  exact outBuf_inside V c t y

end Region

end Cert.Scale

end
-- ==== Proof.LossRegion.lean ====
/- The second launch, `_loss_g_kernel`: from the f32[1024,512] features, the row norms clipped to [10, 110] and from each
   norm `n` the word `20 * (n / 12100 + 1 / n)`, over one block that is the whole array.

   What is shown, for any values of the entry buffers: the body leaves in the output's buffer the kernel's printed
   arithmetic of the input's (`body_run`), and the output array ends holding that of the input array (`out_final`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.ValueKit
public import Idealize.ShloMosaic.Lib.Tactic

@[expose] public section

set_option maxRecDepth 16384

noncomputable section

namespace Cert.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## What the block computes -/

/-- The whole input buffer, as the rectangle the body loads, -/
abbrev allIn : Rect S1024x512 := Rect.unit (s := S1024x512) ![0, 0] S1024x512.size inb_S1024x512_S1024x512_0_0
/-- and the whole output buffer, as the rectangle it stores. -/
abbrev allOut : Rect S1024x1 := Rect.unit (s := S1024x1) ![0, 0] S1024x1.size inb_S1024x1_S1024x1_0_0

/-- The one store fills its buffer. -/
theorem allOut_cover (p : Vec F S1024x1 .f32) (y : S1024x1.Idx) :
    ∃ pc ∈ ([⟨allOut, p⟩] : List (View.Piece (Elt F) S1024x1 .f32)), y ∈ pc.1.set :=
  View.cover_of_tiled [⟨allOut, p⟩] S1024x1.size (by rfl) y

/-- Storing over the whole output what was computed of a load of the whole input leaves the computed value. -/
theorem stored_eq (x : Vec F S1024x512 .f32) :
    (View.canon [⟨allOut, k1_pay1 (View.ld x allIn)⟩] : Vec F S1024x1 .f32) = k1_pay1 x := by
  frame_out

/-- The body on whole buffers, the input's holding `x` and the output's anything: the output's ends at the arithmetic of
    `x`, the input's as it was. -/
theorem body_run (c : Dev nD) (E : Set ℕ)
    (src : Memref sig .tc .vmem S1024x512 .f32) (hsrc : src.IsWhole)
    (dst : Memref sig .tc .vmem S1024x1 .f32) (hdst : dst.IsWhole)
    (x : Vec F S1024x512 .f32) (K : PUnit → sProp 𝕄) :
    iprop(owns (c : Thread nD τ) src fullShare x ∗ (∃ d, owns (c : Thread nD τ) dst fullShare d)
        ∗ (iprop(owns (c : Thread nD τ) src fullShare x ∗ owns (c : Thread nD τ) dst fullShare (k1_pay1 x)) -∗ K ⟨⟩))
      ⊢ wp frame (wpE (defs₀ (F := F)) Variants.none c none) E (cc1__loss_g_kernel src hsrc dst hdst) K := by
  simp only [cc1__loss_g_kernel_eq_skeleton]; unfold cc1__loss_g_kernel_skel
  rw [← stored_eq x]
  unfold owns
  iintro ⟨⟨%f, %hf, Hs⟩, ⟨%d, %g, -, Hd⟩, Hk⟩
  subst hf
  sl_exec
  sl_step
  iapply Hk
  isplitl [Hs]
  · iexists f; isplitr; · ipureintro; rfl
    iexact Hs
  iexists _; isplitr
  swap; · iexact Hd
  ipureintro
  exact View.read_writes_eq_canon _ _ _ (allOut_cover _)

/-! ## The pipeline's proof data -/

section Region
variable (V : Dev nD → Valuation τ sig (Elt F))

/-- The features as the launch finds them. -/
abbrev feats (c : Dev nD) : S1024x512.Idx → Elt F .f32 := V c (Proc.devRef .tc main_arg1)

/-- The input's one block, read off its array. -/
def xblk (c : Dev nD) (t : Fin cfg1.N) : S1024x512.Idx → Elt F .f32 :=
  (win1_0.blk t).view.read (Elt F) (V c (Proc.devRef .tc main_arg1))

/-- The input window's block index is zero along both axes: there is the one block. -/
theorem index_in (t : Fin cfg1.N) (a) : win1_0.index t a = 0 :=
  (by decide +kernel : ∀ (t : Fin grid1.N) (a), win1_0.index t a = 0) t a
/-- So is the output window's. -/
theorem index_out (t : Fin cfg1.N) (a) : win1_1.index t a = 0 :=
  (by decide +kernel : ∀ (t : Fin grid1.N) (a), win1_1.index t a = 0) t a

/-- The input's one block is the whole array. -/
theorem xblk_eq (c : Dev nD) (t : Fin cfg1.N) : xblk V c t = feats V c := by
  funext y; blk_ext [xblk, index_in t]

/-- The proof data on core `c`: the arrays as the launch finds them; after the body the input's buffer as it was and the
    output's at the arithmetic of the features; the rest of the scoped memory and the generator register untouched,
    nothing owed. -/
def dat (c : Dev nD) : Dat τ (Elt F) Unit ℕ (UR sig nD τ) ℕ cfg1 c where
  A w := V c (Proc.devRef .tc (Pipeline.arrRef spec1 w))
  after w t := match w with
    | ⟨0, _⟩ => xblk V c t
    | ⟨1, _⟩ => k1_pay1 (xblk V c t)
  Φ _ := Pipeline.ΦA spec1 c
  q _ := fullShare
  owed _ := 0

/-- The input's buffer when the body starts: the fetched block. -/
theorem before_in (c : Dev nD) (t : Fin cfg1.N) (d) : (dat V c).before (0 : Fin 2) t d = xblk V c t := by
  unfold Dat.before; rw [if_pos (fetch1_0 t)]; rfl

/-- The output's buffer after the body, read off the proof data. -/
theorem after_out (c : Dev nD) (t : Fin cfg1.N) : (dat V c).after (1 : Fin 2) t = k1_pay1 (xblk V c t) := by dsimp only [dat]

/-- The body at the one point: the input's buffer keeps its block and the output's ends at the arithmetic of it. -/
theorem obligation (c : Dev nD) : BodyObligation (dat V c) (defs₀ (F := F)) Variants.none () Set.univ := fun t => by
  rw [bigSep_W1, bigSep_W1]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩⟩
  rw [before_in V c t d0]
  iapply (body_run (F := F) c Set.univ (win1_0.stage (cfg1.slots t 0)) (hstage1_0 0)
    (win1_1.stage (cfg1.slots t 1)) (hstage1_1 0) (xblk V c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! ## What the output array ends holding -/

/-- The output ends holding the kernel's arithmetic of the features. -/
theorem out_final (c : Dev nD) : (dat V c).arrAt (1 : Fin 2) cfg1.N = k1_pay1 (feats V c) := by
  refine Dat.arrAt_eq_of_covers (dat V c) 1 _ (by decide +kernel) fun t _ y => ?_
  rw [after_out, xblk_eq]
  refine congrArg (k1_pay1 (feats V c)) (?_ : y = (win1_1.blk t).view.emb y)
  blk_ext [index_out t]

end Region

end Cert.Loss

end
-- ==== Proof.Run.lean ====
/- The whole program: the two launches in order, run from any memory with every semaphore counter at zero.

   Every run ends; nothing faults; `%0` ends holding the scaled logits (`Scale.word` of every word of the first argument),
   `%1` the norms' arithmetic of the second argument, and the three arguments and every counter are as they were (`run`).
   It holds for any float values and any reading of the named constant, so it serves the printed program, where words are
   bit patterns, as well as the ideal one. -/
module

public import proofs.«01_k».proof.Proof.ScaleRegion
public import proofs.«01_k».proof.Proof.LossRegion
public import Idealize.ShloMosaic.Lib.Pipeline.RegionArraysS
public import Idealize.ShloMosaic.Lib.Pipeline.FrameTail
public import Idealize.ShloMosaic.Lib.Ring

@[expose] public section

set_option maxRecDepth 16384

noncomputable section

namespace Cert.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memory at each boundary -/

/-- Before the first launch: the launch memory. -/
def atStart (c : Dev nD) : Valuation τ sig (Elt F) := fun b => m (c, b)
/-- Between the two launches: the first one's arrays as its pipeline leaves them. -/
def atMiddle (c : Dev nD) : Valuation τ sig (Elt F) := Pipeline.afterRegion (Scale.dat (atStart m) c) (atStart m c)
/-- After the second launch. -/
def atEnd (c : Dev nD) : Valuation τ sig (Elt F) := Pipeline.afterRegion (Loss.dat (atMiddle m) c) (atMiddle m c)

/-- The first launch changes no buffer but `%0`. -/
theorem atMiddle_of (c : Dev nD) (r : Ref sig .tc) (h : ∀ w, Pipeline.arrRef spec0 w = r → (cfg0.win w).isOut = false) :
    atMiddle m c (Proc.devRef .tc r) = atStart m c (Proc.devRef .tc r) :=
  Pipeline.afterRegion_keeps (Scale.dat (atStart m) c) (atStart m c) launch0.win.arr_inj (fun _ => rfl) r h
/-- The second launch changes no buffer but `%1`. -/
theorem atEnd_of (c : Dev nD) (r : Ref sig .tc) (h : ∀ w, Pipeline.arrRef spec1 w = r → (cfg1.win w).isOut = false) :
    atEnd m c (Proc.devRef .tc r) = atMiddle m c (Proc.devRef .tc r) :=
  Pipeline.afterRegion_keeps (Loss.dat (atMiddle m) c) (atMiddle m c) launch1.win.arr_inj (fun _ => rfl) r h

/-- An argument is no launch's output. -/
theorem arg_kept (c : Dev nD) (r : Ref sig .tc) (h0 : ∀ w, Pipeline.arrRef spec0 w = r → (cfg0.win w).isOut = false)
    (h1 : ∀ w, Pipeline.arrRef spec1 w = r → (cfg1.win w).isOut = false) :
    atEnd m c (Proc.devRef .tc r) = m ((c : Thread nD τ).loc r) :=
  (atEnd_of m c r h1).trans (atMiddle_of m c r h0)

/-- `%0` at the end: every word of the first argument scaled. -/
theorem v0_end (c : Dev nD) :
    atEnd m c (Proc.devRef .tc main_v0) = fun i : S1024x100000.Idx => Scale.word (m ((c : Thread nD τ).loc main_arg0) i) :=
  (atEnd_of m c main_v0 (by decide +kernel)).trans
    ((Pipeline.afterRegion_arr (Scale.dat (atStart m) c) (atStart m c) launch0.win.arr_inj 1).trans (Scale.out_final (atStart m) c))

/-- `%1` at the end: the norms' arithmetic of the second argument. -/
theorem v1_end (c : Dev nD) :
    atEnd m c (Proc.devRef .tc main_v1) = k1_pay1 (m ((c : Thread nD τ).loc main_arg1)) :=
  (Pipeline.afterRegion_arr (Loss.dat (atMiddle m) c) (atMiddle m c) launch1.win.arr_inj 1).trans
    ((Loss.out_final (atMiddle m) c).trans (congrArg k1_pay1 (atMiddle_of m c main_arg1 (by decide +kernel))))

/-! ## The launches as segments -/

/-- Neither pipeline reads a table beforehand. -/
abbrev adm : (p : Fin 2) → (pcfgs (F := F) p).Adm := fun p => (cfgs p).toPCfg_adm

/-- Each pipeline's proof data at the memory its launch finds. -/
def pdats : (p : Fin 2) → (c : Dev nD) → Dat τ (Elt F) Unit ℕ (UR sig nD τ) ℕ (Pipeline.pin (pcfgs (F := F)) adm p) c
  | ⟨0, _⟩ => fun c => Scale.dat (atStart m) c
  | ⟨1, _⟩ => fun c => Loss.dat (atMiddle m) c

/-- Every TensorCore semaphore at one level; no core owes anything, so the level is never used. -/
def L : GSem nD τ sig → Finset Unit := fun g => if g.1.2 = .tc then Finset.univ else ∅
abbrev lv : GSem nD τ sig → Unit → ℕ := fun _ _ => 0

/-- The generator register, at any state. -/
abbrev gen (c : Dev nD) : sProp 𝕄 := iprop(∃ r, prngReg c r)
/-- The thread state at a boundary: the unscoped buffers at `W c`, nothing owed, the generator register. -/
abbrev state (W : Dev nD → Valuation τ sig (Elt F)) (c : Dev nD) : sProp 𝕄 :=
  iprop(StableHlo.held (c : Thread nD τ) (Pipeline.ucRefs τ sig) (W c)
    ∗ ((∃ Wd, owes (c : Thread nD τ) (0 : CellTallies nD τ sig Unit) Wd) ∗ gen c ∗ emp))

/-- The level facts of a launch: trivial at the one level. -/
theorem levels (p : Fin 2) : Pipeline.LevelCut (pcfgs (F := F)) adm () L lv p (fun _ => 0) (fun _ => 0) where
  hι _ _ _ := by unfold L; rw [if_pos rfl]; exact Finset.mem_univ _
  hιb _ _ _ := le_rfl
  hD _ _ _ h := absurd h (lt_irrefl 0)

set_option backward.isDefEq.respectTransparency.types false in
/-- The first launch, from the launch memory. -/
def seg0 : Pipeline.RegionSeg (pcfgs (F := F)) adm (pdats m) () defs₀ Variants.none L lv 0 :=
  Pipeline.RegionSeg.ofHeldIn pcfgs adm (pdats m) () defs₀ Variants.none L lv 0 (fun _ => 0) (Pipeline.ucRefs τ sig) gen gen
    launch0.toP rfl (fun c => Scale.obligation (atStart m) c) (fun _ _ => rfl) (fun _ => rfl)
    (fun c => (pdats m 0 c).share_full fun _ => rfl) (fun _ => .rfl) (fun _ => .rfl) (fun _ => 0) (levels 0)
    (fun _ => iprop(emp)) (atStart m) (fun _ _ => rfl)

set_option backward.isDefEq.respectTransparency.types false in
/-- The second launch, from what the first one leaves. -/
def seg1 : Pipeline.RegionSeg (pcfgs (F := F)) adm (pdats m) () defs₀ Variants.none L lv 1 :=
  Pipeline.RegionSeg.ofHeldIn pcfgs adm (pdats m) () defs₀ Variants.none L lv 1 (fun _ => 0) (Pipeline.ucRefs τ sig) gen gen
    launch1.toP rfl (fun c => (Loss.obligation (atMiddle m) c).loose) (fun _ _ => rfl) (fun _ => rfl)
    (fun c => (pdats m 1 c).share_full fun _ => rfl) (fun _ => .rfl) (fun _ => .rfl) (fun _ => 0) (levels 1)
    (fun _ => iprop(emp)) (atMiddle m) (fun _ _ => rfl)

/-- The arrays a launch names are among the unscoped buffers. -/
theorem arrs_uc0 : Pipeline.arrRefs (pcfgs (F := F) 0).spec ⊆ Pipeline.ucRefs τ sig :=
  Pipeline.arrRefs_sub_ucRefs spec0 launch0.win.arr_unscoped
theorem arrs_uc1 : Pipeline.arrRefs (pcfgs (F := F) 1).spec ⊆ Pipeline.ucRefs τ sig :=
  Pipeline.arrRefs_sub_ucRefs spec1 launch1.win.arr_unscoped

/-- The first launch is entered from the boundary state at the launch memory, -/
theorem seg0_pre (c : Dev nD) : state (atStart m) c ⊢ (seg0 m).pre c :=
  Pipeline.RegionSeg.ofHeldIn_pre (pcs := pcfgs (F := F)) (a := adm) (pdats := pdats m) (ι := ()) (defs₀ := defs₀) (𝒱₀ := Variants.none)
    (L := L) (lv := lv) (p := 0) (D := fun _ => 0) (X := gen) (R := fun _ => iprop(emp)) (W := atStart m) arrs_uc0 c
/-- and leaves the middle one; -/
theorem seg0_post (c : Dev nD) : (seg0 m).post c ⊢ state (atMiddle m) c :=
  Pipeline.RegionSeg.ofHeldIn_post (pcs := pcfgs (F := F)) (p := 0) (arrs_uc0) c
/-- the second is entered from that -/
theorem seg1_pre (c : Dev nD) : state (atMiddle m) c ⊢ (seg1 m).pre c :=
  Pipeline.RegionSeg.ofHeldIn_pre (pcs := pcfgs (F := F)) (a := adm) (pdats := pdats m) (ι := ()) (defs₀ := defs₀) (𝒱₀ := Variants.none)
    (L := L) (lv := lv) (p := 1) (D := fun _ => 0) (X := gen) (R := fun _ => iprop(emp)) (W := atMiddle m) arrs_uc1 c
/-- and leaves the last. -/
theorem seg1_post (c : Dev nD) : (seg1 m).post c ⊢ state (atEnd m) c :=
  Pipeline.RegionSeg.ofHeldIn_post (pcs := pcfgs (F := F)) (p := 1) (arrs_uc1) c

/-- @main's two launches in order. -/
abbrev segs : List (Pipeline.Seg (pcfgs (F := F)) adm (pdats m) () defs₀ Variants.none L lv) :=
  [.region (seg0 m), .region (seg1 m)]

/-- @main is the run of the two. -/
theorem main_run (c : Dev nD) : main (F := F) c = Pipeline.Seg.run (segs m) := (main_chain c).trans (by chain_rfl)

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The TensorCore has no unscoped semaphore. -/
theorem no_unscoped : ∀ sm : SemLoc sig, sm.isScoped .tc = true := by decide

set_option backward.isDefEq.respectTransparency.types false in
/-- The program's run: see the head of this file. -/
theorem run : θ_run defs (onTc (τ := τ) (main (F := F))) ⟨m, fun _ => 0, ρ⟩ (fun r => (∀ c : Dev nD,
      (r.2.mem ((c.tc : Thread nD τ).loc main_v0) = fun i : S1024x100000.Idx => Scale.word (m ((c : Thread nD τ).loc main_arg0) i))
      ∧ r.2.mem ((c.tc : Thread nD τ).loc main_v1) = k1_pay1 (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m) () cellOf_inj emb₁ defs₀ Variants.none L lv m ρ main (segs m)
    (fun c Q => by rw [main_run m c])
    (by simp only [segs, Pipeline.Seg.pipes_region, Pipeline.Seg.pipes_nil]; decide)
    (O₀ := 0) (hL := fun _ h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (atStart m))
    (Tₙ := fun c => iprop(StableHlo.held (c : Thread nD τ) (Pipeline.ucRefs τ sig) (atEnd m c) ∗ gen c))
    (hch := ⟨seg0_pre m, fun c => (seg0_post m c).trans (seg1_pre m c), fun c => (seg1_post m c).trans (by
        iintro ⟨Hh, HO, Hg, -⟩
        isplitr [HO]
        · isplitl [Hh]; · iexact Hh
          iexact Hg
        iexact HO)⟩)
    (hinit := by
      refine Pipeline.initEach L lv fun c => ?_
      rw [show unscopedBufs c (fun b => m ((c : Thread nD τ).loc b)) = StableHlo.held (c : Thread nD τ) (Pipeline.ucRefs τ sig) (atStart m c)
        from Pipeline.unscopedBufs_held c (atStart m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h hz => ⟨(fun c =>
      ⟨(h c _ (mem_uc main_v0 (by decide))).trans (v0_end m c),
       (h c _ (mem_uc main_v1 (by decide))).trans (v1_end m c),
       (h c _ (mem_uc main_arg0 (by decide))).trans (arg_kept m c main_arg0 (by decide +kernel) (by decide +kernel)),
       (h c _ (mem_uc main_arg1 (by decide))).trans (arg_kept m c main_arg1 (by decide +kernel) (by decide +kernel)),
       (h c _ (mem_uc main_arg2 (by decide))).trans (arg_kept m c main_arg2 (by decide +kernel) (by decide +kernel))⟩),
      funext fun g => hz g (.inr (no_unscoped g.2))⟩)

end Cert.Whole

end
-- ==== Proof.KernelFrame.lean ====
/- The frame of the printed program, from the run of the ideal one.

   The two programs differ in one place: where the printed one has the f32 word of `1 / 12100`, the ideal one has a named
   constant. The run in `Run.lean` holds for any float values and any reading of the name, so it holds of bit patterns with
   the name read as that very word, and there it IS the printed program's run. -/
module

public import proofs.«01_k».proof.Defs
public import proofs.«01_k».proof.Proof.Gen.Kernel
public import proofs.«01_k».proof.Proof.Run

@[expose] public section

set_option maxRecDepth 16384

noncomputable section

namespace Cert.Printed

open Idealize.ShloMosaic Idealize.ShloMosaic.TcCoe Idealize.SL.Sem

/-- A name read as the word printed beside it. -/
@[reducible] def asPrinted : Named Bits where
  named _ _ {φ} bits := Scalar.ofBits φ bits

attribute [local instance] asPrinted

/-- With names so read, the two programs have one set of kernel bodies, -/
theorem bodies_eq : Cert.Kernel.defs₀ (F := Bits) = Cert.KernelIdeal.defs₀ (F := Bits) := by
  unfold Cert.KernelIdeal.defs₀ Cert.Kernel.defs₀
  refine congrArg Defs.onTc ?_
  funext l x
  match l, x with
  | 0, (_, _) => rfl
  | 1, (_, _) => rfl

/-- hence one set of functions. -/
theorem defs_eq : Cert.Kernel.defs (F := Bits) = Cert.KernelIdeal.defs (F := Bits) :=
  congrArg (Pipeline.defs (Cert.Kernel.pcfgs (F := Bits))) bodies_eq

/-- The ideal program's frame, with names so read. -/
theorem frame_as_printed (m : (ℓ : Loc Cert.KernelIdeal.nD Cert.KernelIdeal.τ Cert.KernelIdeal.sig) → Buf (Elt Bits) ℓ)
    (g : Dev Cert.KernelIdeal.nD → PrngReg) :
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
        r.2.mem ((c.tc : Thread _ Cert.KernelIdeal.τ).loc Cert.KernelIdeal.main_arg0) = m ((c.tc : Thread _ _).loc Cert.KernelIdeal.main_arg0)
        ∧ r.2.mem ((c.tc : Thread _ Cert.KernelIdeal.τ).loc Cert.KernelIdeal.main_arg1) = m ((c.tc : Thread _ _).loc Cert.KernelIdeal.main_arg1)
        ∧ r.2.mem ((c.tc : Thread _ Cert.KernelIdeal.τ).loc Cert.KernelIdeal.main_arg2) = m ((c.tc : Thread _ _).loc Cert.KernelIdeal.main_arg2))
        ∧ r.2.sem = fun _ => 0) :=
  (θ_run _ _ _).mono (fun _ h => ⟨fun c => (h.1 c).2.2, h.2⟩) (Cert.Whole.run (F := Bits) m g)

/-- A run with functions equal to the printed program's is a run of the printed program. -/
theorem of_defs {D : _} (h : Cert.Kernel.defs (F := Bits) = D) {s P}
    (hr : θ_run D (onTc (τ := Cert.Kernel.τ) (Cert.Kernel.main (F := Bits))) s P) :
    θ_run (Cert.Kernel.defs (F := Bits)) (onTc (τ := Cert.Kernel.τ) (Cert.Kernel.main (F := Bits))) s P := h ▸ hr

/-- The frame of the printed program. -/
theorem frame : Cert.quiescent_Kernel := fun m g _ => of_defs defs_eq (frame_as_printed m g)

end Cert.Printed

end
-- ==== Proof.Formula.lean ====
/- The two results as formulas on the extended reals, and the constants both programs print, read as the numbers they
   are. Nothing here mentions a block, a grid or a program. -/
module

public import Idealize.ShloMosaic.PureOps.Ideal.Laws
public import Idealize.ShloMosaic.PureOps.IdealRules
public import Idealize.ShloMosaic.Lib.Pointwise
public import proofs.«01_k».proof.KernelIdeal

@[expose] public section

set_option maxRecDepth 16384

noncomputable section

namespace Cert.Formula

open Idealize.ShloMosaic

/-! ## The formulas -/

/-- A logit clipped to [-1, 1], times 32. -/
def scaled (x : EReal) : EReal := min 1 (max ((-1 : ℝ) : EReal) x) * ((32 : ℝ) : EReal)

/-- The square root of a row's sum of squares, clipped to [10, 110]. -/
def clippedNorm (a : (⟨2, ![1024, 512]⟩ : Shape).Idx → EReal) (r : Fin 1024) : EReal :=
  min ((110 : ℝ) : EReal) (max ((10 : ℝ) : EReal) (Ideal.sqrt (∑ k : Fin 512, a (ix2 r k) * a (ix2 r k))))

/-- The loss of a norm: `20 * (n / 12100 + 1 / n)`. -/
def loss (n : EReal) : EReal := ((20 : ℝ) : EReal) * (((1 / 12100 : ℝ) : EReal) * n + Ideal.div 1 n)

/-! ## The printed constants -/

theorem minus_one : Ideal.ofBits .f32 0xBF800000#32 = ((-1 : ℝ) : EReal) := by
  simp [Ideal.ofBits, Ideal.ieee, -EReal.coe_mul]; norm_num
theorem ten : Ideal.ofBits .f32 0x41200000#32 = ((10 : ℝ) : EReal) := by
  simp [Ideal.ofBits, Ideal.ieee, -EReal.coe_mul]; norm_num
theorem twenty : Ideal.ofBits .f32 0x41A00000#32 = ((20 : ℝ) : EReal) := by
  simp [Ideal.ofBits, Ideal.ieee, -EReal.coe_mul]; norm_num
theorem thirty_two : Ideal.ofBits .f32 0x42000000#32 = ((32 : ℝ) : EReal) := by
  simp [Ideal.ofBits, Ideal.ieee, -EReal.coe_mul]; norm_num
theorem one_hundred_ten : Ideal.ofBits .f32 0x42DC0000#32 = ((110 : ℝ) : EReal) := by
  simp [Ideal.ofBits, Ideal.ieee, -EReal.coe_mul]; norm_num
theorem twelve_thousand_one_hundred : Ideal.ofBits .f32 0x463D1000#32 = ((12100 : ℝ) : EReal) := by
  simp [Ideal.ofBits, Ideal.ieee, -EReal.coe_mul]; norm_num

/-- The kernel's named constant is the number the name stands for. -/
theorem inv_ua_sq : Named.named (F := Ideal) Cert.KernelIdeal.κ "inv_ua_sq" (φ := .f32) 0x38AD517F#32 = ((1 / 12100 : ℝ) : EReal) :=
  IdealRules.named_const.ideal_named_scalar _ _ _ _ rfl

/-- The reference's quotient is the same number. -/
theorem one_over_ua_sq : Ideal.div 1 ((12100 : ℝ) : EReal) = ((1 / 12100 : ℝ) : EReal) := by
  rw [Ideal.div_coe (by norm_num), one_mul]

end Cert.Formula

end
-- ==== Proof.KernelValue.lean ====
/- What the kernel's arithmetic computes, over the extended reals: the formulas. -/
module

public import proofs.«01_k».proof.Proof.Formula
public import proofs.«01_k».proof.Proof.ScaleRegion

@[expose] public section

set_option maxRecDepth 16384

noncomputable section

namespace Cert.KernelValue

open Idealize.ShloMosaic Cert.Formula

/-- A word of the first launch. -/
theorem word_eq (x : Ideal .f32) : Cert.Scale.word x = scaled x := by
  pointwise [Cert.Scale.word]
  rw [minus_one, thirty_two]
  rfl

/-- A word of the second launch: the loss of its row's norm. -/
theorem pay_eq (a : FVec Ideal Cert.KernelIdeal.S1024x512 .f32) (j : Cert.KernelIdeal.S1024x1.Idx) :
    Cert.KernelIdeal.Gen.k1_pay1 (F := Ideal) a j = loss (clippedNorm a (j 0)) := by
  pointwise [Cert.KernelIdeal.Gen.k1_pay1]
  rw [inv_ua_sq, ten, twenty, one_hundred_ten]
  rfl

end Cert.KernelValue

end
-- ==== Proof.ReferenceValue.lean ====
/- What the reference's whole-array arithmetic computes, over the extended reals: the formulas. -/
module

public import proofs.«01_k».proof.Proof.Formula
public import proofs.«01_k».proof.Proof.Gen.ReferenceIdeal

@[expose] public section

set_option maxRecDepth 16384

noncomputable section

namespace Cert.ReferenceValue

open Idealize.ShloMosaic Cert.ReferenceIdeal Cert.ReferenceIdeal.Gen Cert.Formula

/-- A scalar constant spread over an array. -/
abbrev splat0 (b : BitVec 32) : FVec Ideal S1024x100000 .f32 := broadcastInDim S1024x100000 ![] bcast_S_S1024x100000 (constant S_ .f32 b)
/-- A scalar constant spread over a column. -/
abbrev splat1 (b : BitVec 32) : FVec Ideal S1024x1 .f32 := broadcastInDim S1024x1 ![] bcast_S_S1024x1 (constant S_ .f32 b)

/-- The reference's first result, of the logits. -/
def logits (x : FVec Ideal S1024x100000 .f32) : FVec Ideal S1024x100000 .f32 :=
  mulf (minimumf (splat0 0x3F800000#32) (maximumf (splat0 0xBF800000#32) x)) (splat0 0x42000000#32)

/-- The reference's clipped norms, of the features. -/
def norms (a : FVec Ideal S1024x512 .f32) : FVec Ideal S1024x1 .f32 :=
  minimumf (splat1 0x42DC0000#32) (maximumf (splat1 0x41200000#32) (Host.sqrt (broadcastInDim S1024x1 ![0] bcast_S1024_S1024x1_0
    (Host.reduceAdd (mulf a a) (constant S_ .f32 0x00000000#32) reducesTo_S1024x512_S1024_d1 h_S_))))

/-- The reference's second result, of the norms. -/
def losses (n : FVec Ideal S1024x1 .f32) : FVec Ideal S1024x1 .f32 :=
  mulf (splat1 0x41A00000#32) (addf
    (mulf (broadcastInDim S1024x1 ![] bcast_S_S1024x1 (Host.divf (constant S_ .f32 0x3F800000#32) (constant S_ .f32 0x463D1000#32))) n)
    (Host.divf (splat1 0x3F800000#32) n))

/-- A word of the first result. -/
theorem logits_eq (x : FVec Ideal S1024x100000 .f32) (i : S1024x100000.Idx) : logits x i = scaled (x i) := by
  pointwise [logits]
  rw [minus_one, thirty_two]
  rfl

/-- A word of the norms. -/
theorem norms_eq (a : FVec Ideal S1024x512 .f32) (j : S1024x1.Idx) : norms a j = clippedNorm a (j 0) := by
  pointwise [norms]
  rw [ten, one_hundred_ten]
  rfl

/-- A word of the second result. -/
theorem losses_eq (n : FVec Ideal S1024x1 .f32) (j : S1024x1.Idx) : losses n j = loss (n j) := by
  pointwise [losses]
  rw [twenty, twelve_thousand_one_hundred, one_over_ua_sq]
  rfl

end Cert.ReferenceValue

end
-- ==== Proof.Equation.lean ====
/- The equation: on the same arguments the kernel's arithmetic and the reference's are one array each, over the extended
   reals, whatever the arguments hold. Both sides are the formulas of `Formula.lean`. -/
module

public import proofs.«01_k».proof.Proof.KernelValue
public import proofs.«01_k».proof.Proof.ReferenceValue

@[expose] public section

noncomputable section

namespace Cert.Equation

open Idealize.ShloMosaic

/-- The first result. -/
theorem logits_agree (x : FVec Ideal Cert.ReferenceIdeal.S1024x100000 .f32) :
    Cert.ReferenceValue.logits x = fun i => Cert.Scale.word (F := Ideal) (x i) :=
  funext fun i => (Cert.ReferenceValue.logits_eq x i).trans (Cert.KernelValue.word_eq (x i)).symm

/-- The second result. -/
theorem losses_agree (a : FVec Ideal Cert.ReferenceIdeal.S1024x512 .f32) :
    Cert.ReferenceValue.losses (Cert.ReferenceValue.norms a) = Cert.KernelIdeal.Gen.k1_pay1 (F := Ideal) a :=
  funext fun j => (Cert.ReferenceValue.losses_eq _ j).trans
    ((congrArg Cert.Formula.loss (Cert.ReferenceValue.norms_eq a j)).trans (Cert.KernelValue.pay_eq a j).symm)

end Cert.Equation

end
-- ==== Proof.lean ====
/- The claims, assembled: the frames of the kernel as printed, of the kernel read on the extended reals and of the
   reference; the named constant's statement; and the equality of the two programs' results.

   The kernel's run is `Proof/Run.lean` (from `ScaleRegion` and `LossRegion`, one per launch); `Proof/KernelFrame.lean`
   reads it at bit patterns; `Proof/Formula.lean`, `KernelValue`, `ReferenceValue` and `Equation` are the mathematics. -/
module

public import proofs.«01_k».proof.Defs
public import proofs.«01_k».proof.Proof.KernelFrame
public import proofs.«01_k».proof.Proof.Equation
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel read on the extended reals: it ends, nothing faults, the arguments and the counters are as they were. -/
theorem frame_ideal : Cert.quiescent_KernelIdeal := fun m g _ =>
  (θ_run Cert.KernelIdeal.defs _ _).mono (fun _ h => ⟨fun c => (h.1 c).2.2, h.2⟩) (Cert.Whole.run (F := Ideal) m g)

/-- The reference likewise; it has no semaphore at all. -/
theorem frame_reference : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The one rewrite: where the kernel prints the f32 word nearest `1 / 12100`, the ideal program has `1 / 12100` itself. -/
theorem preserves : Cert.preserves_Kernel_KernelIdeal :=
  IdealRules.named_const.statement Cert.KernelIdeal.κ "inv_ua_sq" .f32 0x38AD517F#32 ((1 / 12100 : ℝ) : EReal) rfl

/-- Both results of the kernel are the reference's, from memories that agree on the arguments. -/
theorem algebraic : Cert.algebraic_KernelIdeal_ReferenceIdeal := fun m g m' g' _ hm =>
  ⟨fun c => fun i : Cert.KernelIdeal.S1024x100000.Idx =>
      Cert.Scale.word (F := Ideal) (m ((c.tc : Thread Cert.KernelIdeal.nD Cert.KernelIdeal.τ).loc Cert.KernelIdeal.main_arg0) i),
    fun c => Cert.KernelIdeal.Gen.k1_pay1 (F := Ideal)
      (m ((c.tc : Thread Cert.KernelIdeal.nD Cert.KernelIdeal.τ).loc Cert.KernelIdeal.main_arg1)),
    (θ_run Cert.KernelIdeal.defs _ _).mono (fun _ h => h.1) (Cert.Whole.run (F := Ideal) m g),
    (θ_run Cert.ReferenceIdeal.defs _ _).mono
      (fun _ h c => ⟨(h c).1.trans ((congrArg Cert.ReferenceValue.logits (hm c).1).trans (Cert.Equation.logits_agree _)),
        (h c).2.1.trans ((congrArg (fun a => Cert.ReferenceValue.losses (Cert.ReferenceValue.norms a)) (hm c).2.1).trans
          (Cert.Equation.losses_agree _)), (h c).2.2⟩)
      (Cert.ReferenceIdeal.Value.run (F := Ideal) m' g')⟩

theorem claim : Cert.Claim :=
  ⟨Cert.Kernel.Gen.facts, Cert.KernelIdeal.Gen.facts, Cert.ReferenceIdeal.Gen.facts,
    Cert.Printed.frame, frame_ideal, frame_reference, preserves, algebraic⟩

end Cert.Proof

end
